-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3072 : Shape := ⟨3, ![192, 1, 3072]⟩
abbrev S1536x8192 : Shape := ⟨2, ![1536, 8192]⟩
abbrev S24x8192 : Shape := ⟨2, ![24, 8192]⟩
abbrev S192x3072 : Shape := ⟨2, ![192, 3072]⟩
abbrev S192x8192 : Shape := ⟨2, ![192, 8192]⟩
abbrev S1536x512 : Shape := ⟨2, ![1536, 512]⟩
abbrev S24x512 : Shape := ⟨2, ![24, 512]⟩
abbrev S192x512 : Shape := ⟨2, ![192, 512]⟩
abbrev S3072x512 : Shape := ⟨2, ![3072, 512]⟩
abbrev S24x128x512 : Shape := ⟨3, ![24, 128, 512]⟩
abbrev S24x1x512 : Shape := ⟨3, ![24, 1, 512]⟩
abbrev S192x1x8192 : Shape := ⟨3, ![192, 1, 8192]⟩

abbrev nBuf : Space → Nat
  | .hbm => 8
  | .vmem => 11
  | .smem => 0
  | _ => 0

abbrev bufTy : (tb : Table) → Fin (tcTables nBuf tb) → BufTy
  | .hbm, ⟨0, _⟩ => ⟨S192x1x3072, .bf16⟩
  | .hbm, ⟨1, _⟩ => ⟨S1536x8192, .i8⟩
  | .hbm, ⟨2, _⟩ => ⟨S24x8192, .bf16⟩
  | .hbm, ⟨3, _⟩ => ⟨S1536x8192, .i8⟩
  | .hbm, ⟨4, _⟩ => ⟨S24x8192, .bf16⟩
  | .hbm, ⟨5, _⟩ => ⟨S192x3072, .bf16⟩
  | .hbm, ⟨6, _⟩ => ⟨S192x8192, .bf16⟩
  | .hbm, ⟨7, _⟩ => ⟨S192x1x8192, .bf16⟩
  | .local _ .vmem, ⟨0, _⟩ => ⟨S192x3072, .bf16⟩
  | .local _ .vmem, ⟨1, _⟩ => ⟨S1536x512, .i8⟩
  | .local _ .vmem, ⟨2, _⟩ => ⟨S1536x512, .i8⟩
  | .local _ .vmem, ⟨3, _⟩ => ⟨S24x512, .bf16⟩
  | .local _ .vmem, ⟨4, _⟩ => ⟨S24x512, .bf16⟩
  | .local _ .vmem, ⟨5, _⟩ => ⟨S1536x512, .i8⟩
  | .local _ .vmem, ⟨6, _⟩ => ⟨S1536x512, .i8⟩
  | .local _ .vmem, ⟨7, _⟩ => ⟨S24x512, .bf16⟩
  | .local _ .vmem, ⟨8, _⟩ => ⟨S24x512, .bf16⟩
  | .local _ .vmem, ⟨9, _⟩ => ⟨S192x512, .bf16⟩
  | .local _ .vmem, ⟨10, _⟩ => ⟨S192x512, .bf16⟩
  | _, _ => ⟨S192x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S192x1x3072 : Shape := ⟨3, ![192, 1, 3072]⟩
abbrev S1536x8192 : Shape := ⟨2, ![1536, 8192]⟩
abbrev S24x8192 : Shape := ⟨2, ![24, 8192]⟩
abbrev S192x1536x2 : Shape := ⟨3, ![192, 1536, 2]⟩
abbrev S_ : Shape := ⟨0, ![]⟩
abbrev S1x1536x8192 : Shape := ⟨3, ![1, 1536, 8192]⟩
abbrev S2x1536x8192 : Shape := ⟨3, ![2, 1536, 8192]⟩
abbrev S2x24x64x8192 : Shape := ⟨4, ![2, 24, 64, 8192]⟩
abbrev S1x24x1x8192 : Shape := ⟨4, ![1, 24, 1, 8192]⟩
abbrev S192x8192 : Shape := ⟨2, ![192, 8192]⟩
abbrev S192x1x8192 : Shape := ⟨3, ![192, 1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S192x1x3072, .bf16⟩
  | .hbm, ⟨1, _⟩ => ⟨S1536x8192, .i8⟩
  | .hbm, ⟨2, _⟩ => ⟨S24x8192, .bf16⟩
  | .hbm, ⟨3, _⟩ => ⟨S1536x8192, .i8⟩
  | .hbm, ⟨4, _⟩ => ⟨S24x8192, .bf16⟩
  | .hbm, ⟨5, _⟩ => ⟨S192x1536x2, .bf16⟩
  | .hbm, ⟨6, _⟩ => ⟨S1536x8192, .i32⟩
  | .hbm, ⟨7, _⟩ => ⟨S_, .i32⟩
  | .hbm, ⟨8, _⟩ => ⟨S1536x8192, .i32⟩
  | .hbm, ⟨9, _⟩ => ⟨S1536x8192, .i32⟩
  | .hbm, ⟨10, _⟩ => ⟨S_, .i32⟩
  | .hbm, ⟨11, _⟩ => ⟨S1536x8192, .i32⟩
  | .hbm, ⟨12, _⟩ => ⟨S1536x8192, .i32⟩
  | .hbm, ⟨13, _⟩ => ⟨S1x1536x8192, .i32⟩
  | .hbm, ⟨14, _⟩ => ⟨S1x1536x8192, .i32⟩
  | .hbm, ⟨15, _⟩ => ⟨S2x1536x8192, .i32⟩
  | .hbm, ⟨16, _⟩ => ⟨S2x1536x8192, .bf16⟩
  | .hbm, ⟨17, _⟩ => ⟨S_, .bf16⟩
  | .hbm, ⟨18, _⟩ => ⟨S2x1536x8192, .bf16⟩
  | .hbm, ⟨19, _⟩ => ⟨S2x1536x8192, .bf16⟩
  | .hbm, ⟨20, _⟩ => ⟨S2x24x64x8192, .bf16⟩
  | .hbm, ⟨21, _⟩ => ⟨S1x24x1x8192, .bf16⟩
  | .hbm, ⟨22, _⟩ => ⟨S2x24x64x8192, .bf16⟩
  | .hbm, ⟨23, _⟩ => ⟨S2x24x64x8192, .bf16⟩
  | .hbm, ⟨24, _⟩ => ⟨S2x1536x8192, .bf16⟩
  | .hbm, ⟨25, _⟩ => ⟨S192x8192, .f32⟩
  | .hbm, ⟨26, _⟩ => ⟨S1536x8192, .i32⟩
  | .hbm, ⟨27, _⟩ => ⟨S_, .i32⟩
  | .hbm, ⟨28, _⟩ => ⟨S1536x8192, .i32⟩
  | .hbm, ⟨29, _⟩ => ⟨S1536x8192, .i32⟩
  | .hbm, ⟨30, _⟩ => ⟨S_, .i32⟩
  | .hbm, ⟨31, _⟩ => ⟨S1536x8192, .i32⟩
  | .hbm, ⟨32, _⟩ => ⟨S1536x8192, .i32⟩
  | .hbm, ⟨33, _⟩ => ⟨S1x1536x8192, .i32⟩
  | .hbm, ⟨34, _⟩ => ⟨S1x1536x8192, .i32⟩
  | .hbm, ⟨35, _⟩ => ⟨S2x1536x8192, .i32⟩
  | .hbm, ⟨36, _⟩ => ⟨S2x1536x8192, .bf16⟩
  | .hbm, ⟨37, _⟩ => ⟨S_, .bf16⟩
  | .hbm, ⟨38, _⟩ => ⟨S2x1536x8192, .bf16⟩
  | .hbm, ⟨39, _⟩ => ⟨S2x1536x8192, .bf16⟩
  | .hbm, ⟨40, _⟩ => ⟨S2x24x64x8192, .bf16⟩
  | .hbm, ⟨41, _⟩ => ⟨S1x24x1x8192, .bf16⟩
  | .hbm, ⟨42, _⟩ => ⟨S2x24x64x8192, .bf16⟩
  | .hbm, ⟨43, _⟩ => ⟨S2x24x64x8192, .bf16⟩
  | .hbm, ⟨44, _⟩ => ⟨S2x1536x8192, .bf16⟩
  | .hbm, ⟨45, _⟩ => ⟨S192x8192, .f32⟩
  | .hbm, ⟨46, _⟩ => ⟨S192x8192, .f32⟩
  | .hbm, ⟨47, _⟩ => ⟨S192x8192, .f32⟩
  | .hbm, ⟨48, _⟩ => ⟨S_, .f32⟩
  | .hbm, ⟨49, _⟩ => ⟨S192x8192, .f32⟩
  | .hbm, ⟨50, _⟩ => ⟨S192x8192, .f32⟩
  | .hbm, ⟨51, _⟩ => ⟨S_, .f32⟩
  | .hbm, ⟨52, _⟩ => ⟨S192x8192, .f32⟩
  | .hbm, ⟨53, _⟩ => ⟨S192x8192, .f32⟩
  | .hbm, ⟨54, _⟩ => ⟨S192x8192, .f32⟩
  | .hbm, ⟨55, _⟩ => ⟨S192x8192, .f32⟩
  | .hbm, ⟨56, _⟩ => ⟨S192x8192, .bf16⟩
  | .hbm, ⟨57, _⟩ => ⟨S192x1x8192, .bf16⟩
  | _, _ => ⟨S192x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.Words.lean ====
module

public import Idealize.ShloMosaic.PureOps.Ideal
public import Idealize.ShloMosaic.Lib.Pipeline.ValueKit

/-! The four-bit codes: what the kernel reads out of a byte and what the reference reads out of it are one number. -/

@[expose] public section

namespace Cert.Words

open Idealize.ShloMosaic

/-- The weight that nibble `j` of a byte stands for: the low nibble (`j = 0`) or the high one, less 8. -/
def code (c : BitVec 8) (j : Nat) : Int := ((c.toNat / 16 ^ j % 16 : Nat) : Int) - 8

/-- The 32-bit word the kernel builds of one byte: the byte with the top bit of each nibble flipped, and above it,
    from bit 16, its high nibble. -/
def word (c : BitVec 8) : BitVec 32 :=
  (c ^^^ 136#8).setWidth 32 ||| (IntOp.shli .vector (IntOp.shrsi .vector ((c ^^^ 136#8).setWidth 32) 4#32) 16#32)

/-- The low four bits of half `j` of the word, read as a signed number, are the code of nibble `j`. -/
theorem word_code (c : BitVec 8) (j : Fin 2) :
    (((word c).extractLsb' (16 * j.val) 16).setWidth 4).toInt = code c j.val := by
  have h : ∀ (n : Fin 256) (j : Fin 2),
      (((word (BitVec.ofFin n)).extractLsb' (16 * j.val) 16).setWidth 4).toInt = code (BitVec.ofFin n) j.val := by
    decide +kernel
  exact h c.toFin j

/-- The byte masked to its low nibble, as a number. -/
theorem low_code (c : BitVec 8) : ((c.setWidth 32 &&& 15#32).toInt) - 8 = code c 0 := by
  have h : ∀ n : Fin 256, (((BitVec.ofFin n : BitVec 8).setWidth 32 &&& 15#32).toInt) - 8 = code (BitVec.ofFin n) 0 := by
    decide +kernel
  exact h c.toFin

/-- The byte shifted to its high nibble, as a number. -/
theorem high_code (c : BitVec 8) : ((IntOp.shrsi .host (c.setWidth 32) 4#32).toInt) - 8 = code c 1 := by
  have h : ∀ n : Fin 256, ((IntOp.shrsi .host ((BitVec.ofFin n : BitVec 8).setWidth 32) 4#32).toInt) - 8
      = code (BitVec.ofFin n) 1 := by
    decide +kernel
  exact h c.toFin

end Cert.Words

end
-- ==== Proof.Spec.lean ====
module

public import proofs.«01_k».proof.Proof.Words
public import Idealize.ShloMosaic.Lib.Pipeline.ValueKit

/-! The mathematics both programs compute, over plain functions: one column of weights, one entry of a projection, the
    gated product. -/

@[expose] public section

noncomputable section

namespace Cert.Spec

open Idealize.ShloMosaic

/-- Row `k` of a dequantised column: nibble `k % 2` of byte `k / 2`, less 8, times the scale of the group of 128 rows
    that row `k` lies in. -/
def weight (p : Fin 1536 → BitVec 8) (s : Fin 24 → EReal) (k : Fin 3072) : EReal :=
  (((Words.code (p ⟨k.val / 2, by omega⟩) (k.val % 2) : Int) : ℝ) : EReal) * s ⟨k.val / 128, by omega⟩

/-- One entry of a projection: a row of the input against a dequantised column. -/
def proj (x : Fin 3072 → EReal) (p : Fin 1536 → BitVec 8) (s : Fin 24 → EReal) : EReal :=
  ∑ k : Fin 3072, x k * weight p s k

/-- The gated product `silu(gate) · up`. -/
def swiglu (g u : EReal) : EReal := g * Ideal.logistic g * u

/-- A sum over 3072 rows is the sum over the two nibbles of the sum over 1536 bytes. -/
theorem sum_pairs (f : Fin 3072 → EReal) :
    ∑ k : Fin 3072, f k = ∑ j : Fin 2, ∑ b : Fin 1536, f ⟨2 * b.val + j.val, by omega⟩ := by
  rw [Finset.sum_comm, ← Fintype.sum_prod_type']
  refine (Fintype.sum_equiv (finProdFinEquiv (m := 1536) (n := 2)) _ _ fun q => ?_).symm
  exact congrArg f (Fin.ext (by simp [finProdFinEquiv]; omega))

/-- The same entry with the input's row read as pairs: byte `b`'s two nibbles meet the input's entries `2 b` and
    `2 b + 1`, under the scale of the group of 64 bytes that byte `b` lies in. -/
theorem proj_pairs (x : Fin 3072 → EReal) (p : Fin 1536 → BitVec 8) (s : Fin 24 → EReal) :
    proj x p s = ∑ j : Fin 2, ∑ b : Fin 1536,
      x ⟨2 * b.val + j.val, by omega⟩ * ((((Words.code (p b) j.val : Int) : ℝ) : EReal) * s ⟨b.val / 64, by omega⟩) := by
  unfold proj
  rw [sum_pairs]
  refine Finset.sum_congr rfl fun j _ => Finset.sum_congr rfl fun b _ => ?_
  have h1 : (⟨(2 * b.val + j.val) / 2, by omega⟩ : Fin 1536) = b := Fin.ext (by simp; omega)
  have h2 : (2 * b.val + j.val) % 2 = j.val := by omega
  have h3 : (⟨(2 * b.val + j.val) / 128, by omega⟩ : Fin 24) = ⟨b.val / 64, by omega⟩ := Fin.ext (by simp; omega)
  simp only [weight, h1, h2, h3]

end Cert.Spec

end
-- ==== Proof.Block.lean ====
module

public import proofs.«01_k».proof.Proof.Spec
public import proofs.«01_k».proof.Proof.Gen.KernelIdeal.Frame
public import Idealize.ShloMosaic.Lib.Pipeline.ValueKit
public import Idealize.ShloMosaic.Lib.BitcastPair

/-! One block of the kernel's result, entry by entry: what the body computes of the five blocks it reads. -/

@[expose] public section

set_option maxRecDepth 16384

noncomputable section

namespace Cert.KernelIdeal.Gen

open Cert.KernelIdeal Idealize.ShloMosaic Idealize.ShloMosaic.TcCoe Idealize.SL.Sem

/-- The codes of a block of packed bytes, as the body unpacks them. -/
def codesOf (v : Vec Ideal S1536x512 .i8) : FVec Ideal S3072x512 .bf16 :=
  have v5 : IVec S1536x512 8 := xori v (broadcast S1536x512 136#8)
  have v6 : IVec S1536x512 32 := extui 32 v5 natLt_8_32
  have v8 : IVec S1536x512 32 := shrsi v6 (broadcast S1536x512 4#32)
  have v10 : IVec S1536x512 32 := shli v8 (broadcast S1536x512 16#32)
  have v11 : IVec S1536x512 32 := ori v6 v10
  have v12 : IVec S3072x512 16 := bitcast S3072x512 16 v11 bitcasts_S1536x512_w32_S3072x512_w16
  sitofp .bf16 (trunci 4 v12 natLt_4_16)

/-- Row `j` of the codes is nibble `j % 2` of byte `j / 2` of the column, less 8. -/
theorem codesOf_apply (v : Vec Ideal S1536x512 .i8) (j : Fin 3072) (n : Fin 512) :
    codesOf v (ix2 j n) = (((Words.code (v (ix2 ⟨j.val / 2, by omega⟩ n)) (j.val % 2) : Int) : ℝ) : EReal) := by
  unfold codesOf
  pointwise
  rw [bitcast_32_16]
  have hi : ∀ hp, bitcasts_S1536x512_w32_S3072x512_w16.srcIdx (ix2 j n) (S3072x512.row (ix2 j n) / 2) hp
      = ix2 (⟨j.val / 2, by omega⟩ : Fin 1536) n := by
    intro hp
    funext a
    match a with
    | ⟨0, _⟩ => rfl
    | ⟨1, _⟩ => rfl
  rw [hi, ← Words.word_code _ ⟨j.val % 2, Nat.mod_lt _ (by decide)⟩]
  rfl

/-- The dequantised weights of a block, as the body scales them. -/
def weightOf (v : Vec Ideal S1536x512 .i8) (s : Vec Ideal S24x512 .bf16) : FVec Ideal S3072x512 .bf16 :=
  have v15 : FVec Ideal S24x128x512 .bf16 := shapeCast S24x128x512 (codesOf v) shapeCasts_S3072x512_S24x128x512
  have v16 : FVec Ideal S24x1x512 .bf16 := shapeCast S24x1x512 s shapeCasts_S24x512_S24x1x512
  have v17 : FVec Ideal S24x128x512 .bf16 := broadcastTo S24x128x512 v16 broadcasts_S24x1x512_S24x128x512
  shapeCast S3072x512 (mulf v15 v17) shapeCasts_S24x128x512_S3072x512

/-- An entry of a block's weights is the entry of the dequantised column. -/
theorem weightOf_apply (v : Vec Ideal S1536x512 .i8) (s : Vec Ideal S24x512 .bf16) (j : Fin 3072) (n : Fin 512) :
    weightOf v s (ix2 j n) = Spec.weight (fun b => v (ix2 b n)) (fun g => s (ix2 g n)) j := by
  have h : weightOf v s (ix2 j n) = codesOf v (ix2 j n) * s (ix2 ⟨j.val / 128, by omega⟩ n) := by
    unfold weightOf
    pointwise
  rw [h, codesOf_apply]
  rfl

/-- The block product against a block's weights is the projection's entry. -/
theorem product_apply (x : Vec Ideal S192x3072 .bf16) (v : Vec Ideal S1536x512 .i8) (s : Vec Ideal S24x512 .bf16)
    (r : Fin 192) (n : Fin 512) :
    (matmul dot_S192x3072_S3072x512_S192x512_1_0_0_1_n_n none
        (shapeCast S192x3072 x shapeCasts_S192x3072_S192x3072 : FVec Ideal S192x3072 .bf16) (weightOf v s)
        (constant S192x512 .f32 0x00000000#32) : FVec Ideal S192x512 .f32) (ix2 r n)
      = Spec.proj (fun k => x (ix2 r k)) (fun b => v (ix2 b n)) (fun g => s (ix2 g n)) := by
  have h : (matmul dot_S192x3072_S3072x512_S192x512_1_0_0_1_n_n none
        (shapeCast S192x3072 x shapeCasts_S192x3072_S192x3072 : FVec Ideal S192x3072 .bf16) (weightOf v s)
        (constant S192x512 .f32 0x00000000#32) : FVec Ideal S192x512 .f32) (ix2 r n)
      = ∑ k : Fin 3072, x (ix2 r k) * weightOf v s (ix2 k n) := by
    pointwise
  rw [h]
  exact Finset.sum_congr rfl fun k _ => congrArg _ (weightOf_apply v s k n)

/-- The gate block at an entry. -/
theorem pay3_apply (x : Vec Ideal S192x3072 .bf16) (v : Vec Ideal S1536x512 .i8) (s : Vec Ideal S24x512 .bf16)
    (r : Fin 192) (n : Fin 512) :
    k0_pay3 x v s (ix2 r n) = Spec.proj (fun k => x (ix2 r k)) (fun b => v (ix2 b n)) (fun g => s (ix2 g n)) :=
  product_apply x v s r n

/-- The up block at an entry. -/
theorem pay4_apply (x : Vec Ideal S192x3072 .bf16) (v : Vec Ideal S1536x512 .i8) (s : Vec Ideal S24x512 .bf16)
    (r : Fin 192) (n : Fin 512) :
    k0_pay4 x v s (ix2 r n) = Spec.proj (fun k => x (ix2 r k)) (fun b => v (ix2 b n)) (fun g => s (ix2 g n)) :=
  product_apply x v s r n

/-- The stored block at an entry: the gated product of the two projections' entries. -/
theorem stored_apply (x : Vec Ideal S192x3072 .bf16) (v : Vec Ideal S1536x512 .i8) (s : Vec Ideal S24x512 .bf16)
    (v' : Vec Ideal S1536x512 .i8) (s' : Vec Ideal S24x512 .bf16) (r : Fin 192) (n : Fin 512) :
    k0_pay1 (k0_pay3 x v s) (k0_pay4 x v' s') (k0_pay5 x v s) (ix2 r n)
      = Spec.swiglu (Spec.proj (fun k => x (ix2 r k)) (fun b => v (ix2 b n)) (fun g => s (ix2 g n)))
          (Spec.proj (fun k => x (ix2 r k)) (fun b => v' (ix2 b n)) (fun g => s' (ix2 g n))) := by
  rw [← pay3_apply, ← pay4_apply]
  rfl

end Cert.KernelIdeal.Gen

end
-- ==== Proof.Value.lean ====
module

public import proofs.«01_k».proof.Proof.Block

/-! The kernel's result array after the run, entry by entry. -/

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)

variable (m : (ℓ : Loc nD τ sig) → Buf (Elt Ideal) ℓ)

/-- The block each window reads or writes at each grid point: the whole input, column block `t` of everything else. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The result array, as a function of the five arguments: the gated product at every entry. -/
def table (x : FVec Ideal S192x1x3072 .bf16) (p : IVec S1536x8192 8) (s : FVec Ideal S24x8192 .bf16)
    (p' : IVec S1536x8192 8) (s' : FVec Ideal S24x8192 .bf16) : FVec Ideal S192x8192 .bf16 := fun i =>
  Spec.swiglu (Spec.proj (fun k => x (ix3 (i 0) 0 k)) (fun b => p (ix2 b (i 1))) (fun g => s (ix2 g (i 1))))
    (Spec.proj (fun k => x (ix3 (i 0) 0 k)) (fun b => p' (ix2 b (i 1))) (fun g => s' (ix2 g (i 1))))

/-- The table of the arguments as memory `m` holds them on device `c`. -/
abbrev tableOf (c : Dev nD) : FVec Ideal S192x8192 .bf16 :=
  table (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- The column of the result that column `n` of block `t` is. -/
def col (t : Fin cfg0.N) (n : Fin 512) : Fin 8192 :=
  ⟨512 * t.val + n.val, by have h : t.val < 16 := t.isLt; omega⟩

/-- The input's block at any point is the whole input. -/
theorem block0 (c : Dev nD) (t : Fin cfg0.N) (r : Fin 192) (k : Fin 3072) :
    iblk m c 0 t (ix2 r k) = m ((c.tc : Thread nD τ).loc main_arg0) (ix3 r 0 k) := by
  have h : iblk m c 0 t (ix2 r k) = V m c main_v0 (ix2 r k) := by
    blk_point [iblk, idx t]
  have hV : V m c main_v0 = shapeCast S192x3072 (m ((c.tc : Thread nD τ).loc main_arg0)) shapeCasts_S192x1x3072_S192x3072 := rfl
  rw [h, hV]
  pointwise

/-- Block `t` of the gate's bytes. -/
theorem block1 (c : Dev nD) (t : Fin cfg0.N) (b : Fin 1536) (n : Fin 512) :
    iblk m c 1 t (ix2 b n) = m ((c.tc : Thread nD τ).loc main_arg1) (ix2 b (col t n)) := by
  blk_point [iblk, V, col, idx t]

/-- Block `t` of the gate's scales. -/
theorem block2 (c : Dev nD) (t : Fin cfg0.N) (g : Fin 24) (n : Fin 512) :
    iblk m c 2 t (ix2 g n) = m ((c.tc : Thread nD τ).loc main_arg2) (ix2 g (col t n)) := by
  blk_point [iblk, V, col, idx t]

/-- Block `t` of the up projection's bytes. -/
theorem block3 (c : Dev nD) (t : Fin cfg0.N) (b : Fin 1536) (n : Fin 512) :
    iblk m c 3 t (ix2 b n) = m ((c.tc : Thread nD τ).loc main_arg3) (ix2 b (col t n)) := by
  blk_point [iblk, V, col, idx t]

/-- Block `t` of the up projection's scales. -/
theorem block4 (c : Dev nD) (t : Fin cfg0.N) (g : Fin 24) (n : Fin 512) :
    iblk m c 4 t (ix2 g n) = m ((c.tc : Thread nD τ).loc main_arg4) (ix2 g (col t n)) := by
  blk_point [iblk, V, col, idx t]

/-- Where an entry of block `t` of the result lies in the result. -/
theorem place (G : FVec Ideal S192x8192 .bf16) (t : Fin cfg0.N) (r : Fin 192) (n : Fin 512) :
    G (((View.whole main_v1).slice (win0_5.rect t)).emb (ix2 r n)) = G (ix2 r (col t n)) := by
  blk_point [col, idx t]

/-- An entry of the block the body leaves at point `t` is the table's entry where the block's entry lies. -/
theorem point (c : Dev nD) (t : Fin cfg0.N) (y : S192x512.Idx) :
    k0_pay1 (k0_pay3 (iblk m c 0 t) (iblk m c 1 t) (iblk m c 2 t)) (k0_pay4 (iblk m c 0 t) (iblk m c 3 t) (iblk m c 4 t))
      (k0_pay5 (iblk m c 0 t) (iblk m c 1 t) (iblk m c 2 t)) y =
    tableOf m c (((View.whole main_v1).slice (win0_5.rect t)).emb y) := by
  obtain ⟨r, n, rfl⟩ : ∃ (r : Fin 192) (n : Fin 512), y = ix2 r n := ⟨y 0, y 1, ValueIdx.eq_ix2 y⟩
  refine (stored_apply _ _ _ _ _ r n).trans (Eq.trans ?_ (place (tableOf m c) t r n).symm)
  simp only [block0, block1, block2, block3, block4]
  rfl

/-- After the run the result array is the table. -/
theorem final (c : Dev nD) : (dats m 0 c).arrAt 5 (cfgs 0).N = tableOf m c := by
  refine (dats m 0 c).arrAt_eq_of_covers 5 _ (by decide +kernel) fun t _ y => ?_
  blk_simp
  rw [after0_5]
  frame_out
  exact point m c t y

end Cert.KernelIdeal.Gen

end
-- ==== Proof.Reference.lean ====
module

public import proofs.«01_k».proof.Proof.Spec
public import proofs.«01_k».proof.Proof.Gen.ReferenceIdeal
public import Idealize.ShloMosaic.Lib.Pipeline.ValueKit
public import Idealize.ShloMosaic.Lib.TwoAxisContraction

/-! The reference's result, entry by entry: its operations named, each read at an index. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The low nibbles of every byte above the high ones, less 8. -/
def pairCodes (p : IVec S1536x8192 8) : FVec Ideal S2x1536x8192 .bf16 :=
  (subf (sitofp .bf16 (concatenate S2x1536x8192 0 [⟨S1x1536x8192, (broadcastInDim S1x1536x8192 ![1, 2] bcast_S1536x8192_S1x1536x8192_1_2 (andi (extui 32 p natLt_8_32) (broadcastInDim S1536x8192 ![] bcast_S_S1536x8192 (constantI S_ 32 15#32))))⟩, ⟨S1x1536x8192, (broadcastInDim S1x1536x8192 ![1, 2] bcast_S1536x8192_S1x1536x8192_1_2 (Host.shrsi (extui 32 p natLt_8_32) (broadcastInDim S1536x8192 ![] bcast_S_S1536x8192 (constantI S_ 32 4#32))))⟩] concatenates_S1x1536x8192_S1x1536x8192_S2x1536x8192_d0)) (broadcastInDim S2x1536x8192 ![] bcast_S_S2x1536x8192 (constant S_ .bf16 0x4100#16)))

/-- The constant 8 of the codes' offset. -/
theorem eight : (Ideal.ofBits .bf16 0x4100#16 : EReal) = ((8 : ℝ) : EReal) := by
  simp [Ideal.ofBits, Ideal.ieee, -EReal.coe_mul]; norm_num

/-- The reference's codes at an entry: nibble `j` of byte `b` of the column, less 8. -/
theorem pairCodes_apply (p : IVec S1536x8192 8) (j : Fin 2) (b : Fin 1536) (n : Fin 8192) :
    pairCodes p (ix3 j b n) = (((Words.code (p (ix2 b n)) j.val : Int) : ℝ) : EReal) := by
  have h8 : ∀ z : Int, ((z : ℝ) : EReal) - ((8 : ℝ) : EReal) = (((z - 8 : Int) : ℝ) : EReal) := by
    intro z; rw [← EReal.coe_sub]; norm_num
  unfold pairCodes
  match j with
  | ⟨0, _⟩ =>
    pointwise
    rw [eight, ← Words.low_code]
    exact h8 _
  | ⟨1, _⟩ =>
    pointwise
    rw [eight, ← Words.high_code]
    exact h8 _

/-- The reference's dequantised weights. -/
def pairWeights (p : IVec S1536x8192 8) (s : FVec Ideal S24x8192 .bf16) : FVec Ideal S2x1536x8192 .bf16 :=
  (shapeCast _ (mulf (shapeCast _ (pairCodes p) shapeCasts_S2x1536x8192_S2x24x64x8192) (broadcastInDim S2x24x64x8192 ![0, 1, 2, 3] bcast_S1x24x1x8192_S2x24x64x8192_0_1_2_3 (broadcastInDim S1x24x1x8192 ![1, 3] bcast_S24x8192_S1x24x1x8192_1_3 s))) shapeCasts_S2x24x64x8192_S2x1536x8192)

/-- The reference's weights at an entry: the code times the scale of the byte's group of 64. -/
theorem pairWeights_apply (p : IVec S1536x8192 8) (s : FVec Ideal S24x8192 .bf16) (j : Fin 2) (b : Fin 1536) (n : Fin 8192) :
    pairWeights p s (ix3 j b n)
      = (((Words.code (p (ix2 b n)) j.val : Int) : ℝ) : EReal) * s (ix2 ⟨b.val / 64, by omega⟩ n) := by
  rw [← pairCodes_apply]
  unfold pairWeights
  pointwise

/-- The reference's projection. -/
def project (x : FVec Ideal S192x1x3072 .bf16) (p : IVec S1536x8192 8) (s : FVec Ideal S24x8192 .bf16) : FVec Ideal S192x8192 .f32 :=
  Host.dotGeneral dot_S192x1536x2_S2x1536x8192_S192x8192_21_01_0_2_n_n none (shapeCast _ x shapeCasts_S192x1x3072_S192x1536x2) (pairWeights p s)

/-- The reference's projection at an entry. -/
theorem project_apply (x : FVec Ideal S192x1x3072 .bf16) (p : IVec S1536x8192 8) (s : FVec Ideal S24x8192 .bf16)
    (r : Fin 192) (n : Fin 8192) :
    project x p s (ix2 r n)
      = Spec.proj (fun k => x (ix3 r 0 k)) (fun b => p (ix2 b n)) (fun g => s (ix2 g n)) := by
  rw [Spec.proj_pairs]
  unfold project
  simp only [Host.dotGeneral, Ideal.dotGeneral_def, Ideal.dotGeneral_apply]
  rw [ValueIdx.sum_contr2 _ 2 1536 rfl rfl rfl]
  refine Finset.sum_congr rfl fun j _ => Finset.sum_congr rfl fun b _ => ?_
  have hl : dot_S192x1536x2_S2x1536x8192_S192x8192_21_01_0_2_n_n.lhsIdx (ix2 r n)
      ((ValueIdx.contrEquiv2 dot_S192x1536x2_S2x1536x8192_S192x8192_21_01_0_2_n_n 2 1536 rfl rfl rfl).symm (j, b))
        = ix3 r b j := by
    funext a
    match a with
    | ⟨0, _⟩ => rfl
    | ⟨1, _⟩ => rfl
    | ⟨2, _⟩ => rfl
  have hr : dot_S192x1536x2_S2x1536x8192_S192x8192_21_01_0_2_n_n.rhsIdx (ix2 r n)
      ((ValueIdx.contrEquiv2 dot_S192x1536x2_S2x1536x8192_S192x8192_21_01_0_2_n_n 2 1536 rfl rfl rfl).symm (j, b))
        = ix3 j b n := by
    funext a
    match a with
    | ⟨0, _⟩ => rfl
    | ⟨1, _⟩ => rfl
    | ⟨2, _⟩ => rfl
  rw [hl, hr, pairWeights_apply]
  refine congrArg (· * _) ?_
  pointwise
  exact congrArg (fun k => x (ix3 r 0 k)) (Fin.ext (by simp; omega))

/-- The reference's result, as a function of the arguments. -/
def result (x : FVec Ideal S192x1x3072 .bf16) (p : IVec S1536x8192 8) (s : FVec Ideal S24x8192 .bf16)
    (p' : IVec S1536x8192 8) (s' : FVec Ideal S24x8192 .bf16) : FVec Ideal S192x1x8192 .bf16 :=
  shapeCast _ (truncf .bf16 (mulf (mulf (project x p s) (Host.divf (broadcastInDim S192x8192 ![] bcast_S_S192x8192 (constant S_ .f32 0x3F800000#32)) (addf (broadcastInDim S192x8192 ![] bcast_S_S192x8192 (constant S_ .f32 0x3F800000#32)) (Host.exp (Host.negf (project x p s)))))) (project x p' s')) bitsLt_bf16_f32) shapeCasts_S192x8192_S192x1x8192

/-- The reference's result at an entry: the gated product of the two projections' entries. -/
theorem result_apply (x : FVec Ideal S192x1x3072 .bf16) (p : IVec S1536x8192 8) (s : FVec Ideal S24x8192 .bf16)
    (p' : IVec S1536x8192 8) (s' : FVec Ideal S24x8192 .bf16) (r : Fin 192) (n : Fin 8192) :
    result x p s p' s' (ix3 r 0 n)
      = Spec.swiglu (Spec.proj (fun k => x (ix3 r 0 k)) (fun b => p (ix2 b n)) (fun g => s (ix2 g n)))
          (Spec.proj (fun k => x (ix3 r 0 k)) (fun b => p' (ix2 b n)) (fun g => s' (ix2 g n))) := by
  rw [← project_apply, ← project_apply]
  unfold result
  pointwise
  rfl

end Cert.ReferenceIdeal.Value

end
-- ==== Proof.Tail.lean ====
module

public import proofs.«01_k».proof.Proof.Value
public import proofs.«01_k».proof.Proof.Reference

/-! The last host operation of the kernel's program reshapes the result array; and the reshaped table is the reference's
    result. -/

@[expose] public section

set_option maxRecDepth 16384

noncomputable section

namespace Cert.KernelIdeal.Gen

open Cert.KernelIdeal Idealize.ShloMosaic Idealize.ShloMosaic.TcCoe Idealize.SL.Sem

variable (m : (ℓ : Loc nD τ sig) → Buf (Elt Ideal) ℓ)

/-- The kernel's result: the table, reshaped. -/
theorem tail_eq (c : Dev nD) :
    Pipeline.afterTail₀ cfgs (dats m) 0 (V0 m) [hostOps1] c main_v2
      = shapeCast S192x1x8192 (tableOf m c) shapeCasts_S192x8192_S192x1x8192 := by
  rw [← final m c]
  unfold Pipeline.afterTail₀
  show StableHlo.after hostOps1 _ _ = _
  refine Eq.trans (b := shapeCast S192x1x8192 (Pipeline.withArrays spec0 c (V0 m c) (fun w => (dats m 0 c).arrAt w (cfgs 0).N) (Proc.devRef .tc main_v1)) shapeCasts_S192x8192_S192x1x8192) rfl ?_
  exact congrArg (fun X => shapeCast S192x1x8192 X shapeCasts_S192x8192_S192x1x8192) (Pipeline.withArrays_arr spec0 (by decide +kernel) c _ _ 5)

/-- The kernel's run: it ends with the result at the reshaped table and the arguments as they were. -/
theorem run_result (ρ : Dev nD → PrngReg) :
    θ_run defs (onTc (τ := τ) (main (F := Ideal))) ⟨m, fun _ => 0, ρ⟩ fun r => ∀ c : Dev nD,
      r.2.mem ((c.tc : Thread nD τ).loc main_v2)
        = shapeCast S192x1x8192 (tableOf m c) shapeCasts_S192x8192_S192x1x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h : θ_run defs (onTc (τ := τ) (main (F := Ideal))) ⟨m, fun _ => 0, ρ⟩ fun r => ∀ c : Dev nD,
      r.2.mem ((c.tc : Thread nD τ).loc main_v2)
        = shapeCast S192x1x8192 (tableOf m c) shapeCasts_S192x8192_S192x1x8192 :=
    (θ_run defs _ _).mono (fun _ h c => ((h c).2 main_v2
      (Pipeline.mem_restRefs_of main_v2 (by decide) (by decide))).trans (tail_eq m c)) (run_main m ρ)
  exact (θ_run defs _ _).mono (fun _ h c => ⟨h.1 c, h.2 c⟩) (θ_run_and h (unchanged m ρ))

/-- The reshaped table is the reference's result of the same arguments. -/
theorem table_eq (x : FVec Ideal S192x1x3072 .bf16) (p : IVec S1536x8192 8) (s : FVec Ideal S24x8192 .bf16)
    (p' : IVec S1536x8192 8) (s' : FVec Ideal S24x8192 .bf16) :
    shapeCast S192x1x8192 (table x p s p' s') shapeCasts_S192x8192_S192x1x8192 = ReferenceIdeal.Value.result x p s p' s' := by
  funext i
  obtain ⟨r, z, n, rfl⟩ : ∃ (r : Fin 192) (z : Fin 1) (n : Fin 8192), i = ix3 r z n := ⟨i 0, i 1, i 2, ValueIdx.eq_ix3 i⟩
  obtain rfl : z = 0 := Subsingleton.elim _ _
  refine Eq.trans ?_ (ReferenceIdeal.Value.result_apply x p s p' s' r n).symm
  have h : shapeCast S192x1x8192 (table x p s p' s') shapeCasts_S192x8192_S192x1x8192 (ix3 r 0 n)
      = table x p s p' s' (ix2 r n) := by pointwise
  rw [h]
  rfl

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The certificate. The two kernel programs and the reference end with their arguments unchanged and every counter at
    zero; the idealized kernel is the kernel over extended reals; and over extended reals the kernel's result is the
    reference's, from any memories that agree on the five arguments. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · intro m ρ _
    exact (θ_run _ _ _).mono (fun r h => ⟨fun c => (h c).2, sem_eq_zero_of_no_sems (by decide) _⟩)
      (Cert.ReferenceIdeal.Value.run m ρ)
  · intro m g m' g' _ hagree
    refine ⟨fun c => shapeCast _ (KernelIdeal.Gen.tableOf m c) KernelIdeal.Gen.shapeCasts_S192x8192_S192x1x8192, ?_, ?_⟩
    · exact KernelIdeal.Gen.run_result m g
    · refine (θ_run _ _ _).mono (fun r h c => ⟨(h c).1.trans ?_, (h c).2⟩) (Cert.ReferenceIdeal.Value.run m' g')
      obtain ⟨h0, h1, h2, h3, h4⟩ := hagree c
      refine Eq.trans ?_ (KernelIdeal.Gen.table_eq _ _ _ _ _).symm
      show ReferenceIdeal.Value.result (m' ((c.tc : Thread _ _).loc ReferenceIdeal.main_arg0))
        (m' ((c.tc : Thread _ _).loc ReferenceIdeal.main_arg1)) (m' ((c.tc : Thread _ _).loc ReferenceIdeal.main_arg2))
        (m' ((c.tc : Thread _ _).loc ReferenceIdeal.main_arg3)) (m' ((c.tc : Thread _ _).loc ReferenceIdeal.main_arg4)) = _
      rw [h0, h1, h2, h3, h4]⟩

end Cert.Proof

end
